-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x3 : Shape := ⟨3, ![4, 4096, 3]⟩
abbrev S4x3x4096 : Shape := ⟨3, ![4, 3, 4096]⟩
abbrev S8x1x2048 : Shape := ⟨3, ![8, 1, 2048]⟩
abbrev S8x1x4096 : Shape := ⟨3, ![8, 1, 4096]⟩
abbrev S1x3x2048 : Shape := ⟨3, ![1, 3, 2048]⟩
abbrev S1x3x4096 : Shape := ⟨3, ![1, 3, 4096]⟩
abbrev S1x1x2048 : Shape := ⟨3, ![1, 1, 2048]⟩
abbrev S1x1x4096 : Shape := ⟨3, ![1, 1, 4096]⟩
abbrev S3x2048 : Shape := ⟨2, ![3, 2048]⟩
abbrev S3x4096 : Shape := ⟨2, ![3, 4096]⟩
abbrev S2048 : Shape := ⟨1, ![2048]⟩
abbrev S1x2048 : Shape := ⟨2, ![1, 2048]⟩
abbrev S4096 : Shape := ⟨1, ![4096]⟩
abbrev S1024x4096 : Shape := ⟨2, ![1024, 4096]⟩
abbrev S3x1024 : Shape := ⟨2, ![3, 1024]⟩
abbrev S1x1024 : Shape := ⟨2, ![1, 1024]⟩
abbrev S1024x1 : Shape := ⟨2, ![1024, 1]⟩
abbrev S1x4096 : Shape := ⟨2, ![1, 4096]⟩
abbrev S1024 : Shape := ⟨1, ![1024]⟩
abbrev S1x1x1024 : Shape := ⟨3, ![1, 1, 1024]⟩
abbrev S4x1x4096 : Shape := ⟨3, ![4, 1, 4096]⟩
abbrev S2x1x4096 : Shape := ⟨3, ![2, 1, 4096]⟩
abbrev S4x4096 : Shape := ⟨2, ![4, 4096]⟩

abbrev nBuf : Space → Nat
  | .hbm => 14
  | .vmem => 20
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S8x1x2048, .f32⟩
  | .hbm, ⟨5, _⟩ => ⟨S8x1x2048, .i32⟩
  | .hbm, ⟨6, _⟩ => ⟨S8x1x4096, .f32⟩
  | .hbm, ⟨7, _⟩ => ⟨S8x1x4096, .i32⟩
  | .hbm, ⟨8, _⟩ => ⟨S4x1x4096, .f32⟩
  | .hbm, ⟨9, _⟩ => ⟨S4x1x4096, .i32⟩
  | .hbm, ⟨10, _⟩ => ⟨S4x4096, .f32⟩
  | .hbm, ⟨11, _⟩ => ⟨S4x4096, .f32⟩
  | .hbm, ⟨12, _⟩ => ⟨S4x4096, .i32⟩
  | .hbm, ⟨13, _⟩ => ⟨S4x4096, .i32⟩
  | .local _ .vmem, ⟨0, _⟩ => ⟨S1x3x2048, .f32⟩
  | .local _ .vmem, ⟨1, _⟩ => ⟨S1x3x2048, .f32⟩
  | .local _ .vmem, ⟨2, _⟩ => ⟨S1x3x4096, .f32⟩
  | .local _ .vmem, ⟨3, _⟩ => ⟨S1x3x4096, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .i32⟩
  | .local _ .vmem, ⟨7, _⟩ => ⟨S1x1x2048, .i32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .i32⟩
  | .local _ .vmem, ⟨11, _⟩ => ⟨S1x1x4096, .i32⟩
  | .local _ .vmem, ⟨12, _⟩ => ⟨S2x1x4096, .f32⟩
  | .local _ .vmem, ⟨13, _⟩ => ⟨S2x1x4096, .f32⟩
  | .local _ .vmem, ⟨14, _⟩ => ⟨S2x1x4096, .i32⟩
  | .local _ .vmem, ⟨15, _⟩ => ⟨S2x1x4096, .i32⟩
  | .local _ .vmem, ⟨16, _⟩ => ⟨S1x1x4096, .f32⟩
  | .local _ .vmem, ⟨17, _⟩ => ⟨S1x1x4096, .f32⟩
  | .local _ .vmem, ⟨18, _⟩ => ⟨S1x1x4096, .i32⟩
  | .local _ .vmem, ⟨19, _⟩ => ⟨S1x1x4096, .i32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x4096, .i32⟩
  | .hbm, ⟨25, _⟩ => ⟨S_, .f32⟩
  | .hbm, ⟨26, _⟩ => ⟨S_, .i32⟩
  | .hbm, ⟨27, _⟩ => ⟨S4x4096, .f32⟩
  | .hbm, ⟨28, _⟩ => ⟨S4x4096, .i32⟩
  | .hbm, ⟨29, _⟩ => ⟨S_, .f32⟩
  | .hbm, ⟨30, _⟩ => ⟨S4x4096, .f32⟩
  | .hbm, ⟨31, _⟩ => ⟨S4x4096x4096, .i32⟩
  | .hbm, ⟨32, _⟩ => ⟨S_, .f32⟩
  | .hbm, ⟨33, _⟩ => ⟨S_, .i32⟩
  | .hbm, ⟨34, _⟩ => ⟨S4x4096, .f32⟩
  | .hbm, ⟨35, _⟩ => ⟨S4x4096, .i32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_call1_v0 : Ref sig .tc := ⟨.hbm, 31, rfl⟩
abbrev main_call1_cst : Ref sig .tc := ⟨.hbm, 32, rfl⟩
abbrev main_call1_c : Ref sig .tc := ⟨.hbm, 33, rfl⟩
abbrev main_call1_v1_0 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proof.FirstMin.lean ====
/-
  The mathematics both programs share, stated without either: the FIRST place at which a sequence of extended reals
  attains its minimum over an interval (`FirstMin`), how the first minimum of two adjacent intervals is made of theirs
  (`FirstMin.merge`), and how the folds that the programs run — a minimum, a minimum of the places that attain it —
  read it off (`FirstMin.fold_min`, `FirstMin.fold_minsi`). Also the square root of the ideal instance, which is
  monotone, and strictly so from zero on (`sqrt_mono`, `sqrt_lt`): it may be taken before or after a minimum.
-/
module

public import Idealize.ShloMosaic.PureOps.Ideal
public import Idealize.ShloMosaic.PureOps.Ideal.Laws
public import Idealize.ShloMosaic.PureOps.Reduce
public import Idealize.ShloMosaic.Lib.Pointwise
public import Idealize.ShloMosaic.Lib.WordArith

@[expose] public section

noncomputable section

namespace Cert.FirstMin

open Idealize.ShloMosaic

/-! ## The ideal square root -/

theorem sqrt_mono {a b : EReal} (h : a ≤ b) : Ideal.sqrt a ≤ Ideal.sqrt b := by
  induction a using EReal.rec with
  | bot => simp
  | top => rw [top_le_iff] at h; subst h; exact le_rfl
  | coe r =>
    induction b using EReal.rec with
    | bot => simp at h
    | top => simp
    | coe s =>
      have hrs : r ≤ s := EReal.coe_le_coe_iff.mp h
      rw [Ideal.sqrt_coe, Ideal.sqrt_coe]
      by_cases hr : r < 0
      · simp [hr]
      · rw [if_neg hr, if_neg (by linarith)]
        exact EReal.coe_le_coe_iff.mpr (Real.sqrt_le_sqrt hrs)

theorem sqrt_lt {a b : EReal} (ha : 0 ≤ a) (h : a < b) : Ideal.sqrt a < Ideal.sqrt b := by
  induction a using EReal.rec with
  | bot => simp at ha
  | top => simp at h
  | coe r =>
    have hr : 0 ≤ r := EReal.coe_nonneg.mp ha
    rw [Ideal.sqrt_coe, if_neg (not_lt.mpr hr)]
    induction b using EReal.rec with
    | bot => simp at h
    | top => exact EReal.coe_lt_top _
    | coe s =>
      have hrs : r < s := EReal.coe_lt_coe_iff.mp h
      rw [Ideal.sqrt_coe, if_neg (by linarith)]
      exact EReal.coe_lt_coe_iff.mpr (Real.sqrt_lt_sqrt hr hrs)

/-! ## The squared distance of two points -/

/-- The squared distance of two points of three coordinates as both programs compute it: the two squared lengths less
    twice the inner product, cut off at zero. -/
def sqd (x y : Fin 3 → EReal) : EReal := max ((∑ c, x c * x c + ∑ c, y c * y c) - 2 * ∑ c, x c * y c) 0

theorem sqd_nonneg (x y : Fin 3 → EReal) : 0 ≤ sqd x y := le_max_right _ _

/-- The word `0x40000000` is the number two. -/
theorem ofBits_two : Ideal.ofBits .f32 0x40000000#32 = 2 := by
  have h : ((8388608 : ℝ) : EReal) * (((2 ^ 22)⁻¹ : ℝ) : EReal) = 2 := by
    rw [← EReal.coe_mul, show (8388608 : ℝ) * (2 ^ 22)⁻¹ = 2 by norm_num]; rfl
  simp [Ideal.ofBits, Ideal.ieee]
  exact h

/-- The word `0x7F800000` is the greatest value. -/
theorem ofBits_top : Ideal.ofBits .f32 0x7F800000#32 = ⊤ := by simp [Ideal.ofBits, Ideal.ieee]

/-- Point `n` of batch `b` of an array of points, as a total function of `n`. -/
def pt (A : (⟨3, ![4, 4096, 3]⟩ : Shape).Idx → EReal) (b : Fin 4) (n : ℕ) : Fin 3 → EReal :=
  fun c => if h : n < 4096 then A (ix3 b ⟨n, h⟩ c) else 0

theorem pt_val (A : (⟨3, ![4, 4096, 3]⟩ : Shape).Idx → EReal) (b : Fin 4) (n : Fin 4096) : pt A b n.val = fun c => A (ix3 b n c) :=
  funext fun _ => dif_pos n.isLt

/-- The squared distances of point `n` of `A` to the points of `B`. -/
def rowSeq (A B : (⟨3, ![4, 4096, 3]⟩ : Shape).Idx → EReal) (b : Fin 4) (n : ℕ) : ℕ → EReal := fun j => sqd (pt A b n) (pt B b j)

/-- The squared distances of point `n` of `B` to the points of `A`. -/
def colSeq (A B : (⟨3, ![4, 4096, 3]⟩ : Shape).Idx → EReal) (b : Fin 4) (n : ℕ) : ℕ → EReal := fun j => sqd (pt A b j) (pt B b n)

/-! ## The first minimum over an interval -/

/-- Over the places `a, a + 1, …, a + n - 1` the sequence `f` attains its minimum at `k`, and at no place before `k`. -/
structure FirstMin (f : ℕ → EReal) (a n k : ℕ) : Prop where
  lo : a ≤ k
  hi : k < a + n
  le : ∀ j, a ≤ j → j < a + n → f k ≤ f j
  lt : ∀ j, a ≤ j → j < k → f k < f j

namespace FirstMin

variable {f : ℕ → EReal} {a n k : ℕ}

/-- There is only one first minimum. -/
theorem unique {k' : ℕ} (h : FirstMin f a n k) (h' : FirstMin f a n k') : k = k' := by
  rcases lt_trichotomy k k' with hlt | heq | hgt
  · exact absurd (h'.lt k h.lo hlt) (not_lt.mpr (h.le k' h'.lo h'.hi))
  · exact heq
  · exact absurd (h.lt k' h'.lo hgt) (not_lt.mpr (h'.le k h.lo h.hi))

/-- The first minimum of two adjacent intervals: the later one's only where it is strictly less. -/
theorem merge {n' k' : ℕ} (h : FirstMin f a n k) (h' : FirstMin f (a + n) n' k') :
    FirstMin f a (n + n') (if f k' < f k then k' else k) := by
  have h1 := h.lo; have h2 := h.hi; have h3 := h'.lo; have h4 := h'.hi
  by_cases hk : f k' < f k
  · rw [if_pos hk]
    refine ⟨by omega, by omega, fun j hj hj' => ?_, fun j hj hj' => ?_⟩
    · by_cases hjn : j < a + n
      · exact hk.le.trans (h.le j hj hjn)
      · exact h'.le j (by omega) (by omega)
    · by_cases hjn : j < a + n
      · exact hk.trans_le (h.le j hj hjn)
      · exact h'.lt j (by omega) hj'
  · rw [if_neg hk]
    refine ⟨by omega, by omega, fun j hj hj' => ?_, fun j hj hj' => h.lt j hj hj'⟩
    by_cases hjn : j < a + n
    · exact h.le j hj hjn
    · exact (not_lt.mp hk).trans (h'.le j (by omega) (by omega))

/-- A nonempty interval has a first minimum. -/
theorem exists_of_pos (f : ℕ → EReal) (a : ℕ) : ∀ n, 0 < n → ∃ k, FirstMin f a n k
  | 0, h => absurd h (lt_irrefl 0)
  | 1, _ => ⟨a, le_rfl, by omega, fun j hj hj' => by rw [show j = a by omega], fun j hj hj' => by omega⟩
  | n + 2, _ => by
    obtain ⟨k, hk⟩ := exists_of_pos f a (n + 1) (by omega)
    exact ⟨_, hk.merge (n' := 1) (k' := a + (n + 1)) ⟨le_rfl, by omega, fun j hj hj' => by rw [show j = a + (n + 1) by omega],
      fun j hj hj' => by omega⟩⟩

/-- Square roots of a sequence that is never negative are first least where the sequence is. -/
theorem sqrt (h : FirstMin f a n k) (h0 : ∀ j, 0 ≤ f j) : FirstMin (fun j => Ideal.sqrt (f j)) a n k :=
  ⟨h.lo, h.hi, fun j hj hj' => sqrt_mono (h.le j hj hj'), fun j hj hj' => sqrt_lt (h0 k) (h.lt j hj hj')⟩

/-- A minimum fold over the interval, begun at the greatest value, is the sequence at its first minimum. -/
theorem fold_min (h : FirstMin f a n k) (g : Fin n → EReal) (hg : ∀ i, g i = f (a + i.val)) :
    Finset.univ.fold min ⊤ g = f k := by
  have h1 := h.lo; have h2 := h.hi
  apply le_antisymm
  · refine Finset.fold_min_le _ |>.mpr (.inr ⟨⟨k - a, by omega⟩, Finset.mem_univ _, ?_⟩)
    rw [hg]; dsimp only; rw [show a + (k - a) = k by omega]
  · refine Finset.le_fold_min _ |>.mpr ⟨le_top, fun i _ => ?_⟩
    rw [hg]
    exact h.le _ (by omega) (by omega)

end FirstMin

/-! ## The minimum of the words of the places that attain it -/

/-- Below half the word range the signed minimum of two words of naturals is the word of their minimum. -/
theorem minsi_ofNat {x y : ℕ} (hx : x < 2 ^ 31) (hy : y < 2 ^ 31) :
    IntOp.minsi (BitVec.ofNat 32 x) (BitVec.ofNat 32 y) = BitVec.ofNat 32 (min x y) := by
  apply BitVec.eq_of_toNat_eq
  rw [WordArith.toNat_minsi_of_lt]
  all_goals simp only [BitVec.toNat_ofNat]
  all_goals omega

/-- A signed minimum fold over words of naturals is the word of the naturals' minimum fold. -/
theorem fold_minsi_ofNat {ι : Type*} [DecidableEq ι] (s : Finset ι) (b : ℕ) (hb : b < 2 ^ 31) (v : ι → ℕ) (hv : ∀ i, v i < 2 ^ 31) :
    s.fold IntOp.minsi (BitVec.ofNat 32 b) (fun i => BitVec.ofNat 32 (v i)) = BitVec.ofNat 32 (s.fold min b v)
      ∧ s.fold min b v < 2 ^ 31 := by
  induction s using Finset.induction_on with
  | empty => exact ⟨rfl, hb⟩
  | insert i s hi ih =>
    rw [Finset.fold_insert hi, Finset.fold_insert hi, ih.1, minsi_ofNat (hv i) ih.2]
    exact ⟨rfl, lt_of_le_of_lt (min_le_left _ _) (hv i)⟩

/-- The places that attain the minimum keep their number, the others get `n`: the signed minimum of these words is the
    first minimum's place, counted from the interval's first. -/
theorem FirstMin.fold_minsi {f : ℕ → EReal} {a n k : ℕ} (h : FirstMin f a n k) (hn : n < 2 ^ 31) (g : Fin n → EReal)
    (hg : ∀ i, g i = f (a + i.val)) (w : Fin n → BitVec 32)
    (hw : ∀ i, w i = if g i = f k then BitVec.ofNat 32 i.val else BitVec.ofNat 32 n) :
    Finset.univ.fold IntOp.minsi 2147483647#32 w = BitVec.ofNat 32 (k - a) := by
  have h1 := h.lo; have h2 := h.hi
  have hw' : w = fun i => BitVec.ofNat 32 (if g i = f k then i.val else n) := by
    funext i; rw [hw]; split <;> rfl
  rw [hw', show (2147483647#32) = BitVec.ofNat 32 2147483647 from rfl,
    (fold_minsi_ofNat _ 2147483647 (by norm_num) _ fun i => by split <;> omega).1]
  congr 1
  apply le_antisymm
  · refine Finset.fold_min_le _ |>.mpr (.inr ⟨⟨k - a, by omega⟩, Finset.mem_univ _, ?_⟩)
    rw [if_pos]
    rw [hg]; dsimp only; rw [show a + (k - a) = k by omega]
  · refine Finset.le_fold_min _ |>.mpr ⟨by omega, fun i _ => ?_⟩
    split
    · rename_i e
      by_contra hlt
      have := h.lt (a + i.val) (by omega) (by omega)
      rw [← hg, e] at this
      exact lt_irrefl _ this
    · omega

/-! ## The place as a function of the sequence -/

/-- The place of the first minimum of `f` among `0, …, n - 1`. -/
def place (f : ℕ → EReal) (n : ℕ) : ℕ := Classical.epsilon fun k => FirstMin f 0 n k

theorem FirstMin.place_eq {f : ℕ → EReal} {n k : ℕ} (h : FirstMin f 0 n k) : place f n = k :=
  (Classical.epsilon_spec (p := fun k => FirstMin f 0 n k) ⟨k, h⟩).unique h

theorem firstMin_place (f : ℕ → EReal) {n : ℕ} (hn : 0 < n) : FirstMin f 0 n (place f n) :=
  Classical.epsilon_spec (p := fun k => FirstMin f 0 n k) (FirstMin.exists_of_pos f 0 n hn)

/-- The place of a first minimum of `f` over `[a, a + n)`. -/
def placeFrom (f : ℕ → EReal) (a n : ℕ) : ℕ := Classical.epsilon fun k => FirstMin f a n k

theorem firstMin_placeFrom (f : ℕ → EReal) (a : ℕ) {n : ℕ} (hn : 0 < n) : FirstMin f a n (placeFrom f a n) :=
  Classical.epsilon_spec (p := fun k => FirstMin f a n k) (FirstMin.exists_of_pos f a n hn)

/-- The first minimum of 4096 places from the first minima of its halves. -/
theorem place_halves (f : ℕ → EReal) :
    (if f (placeFrom f 2048 2048) < f (placeFrom f 0 2048) then placeFrom f 2048 2048 else placeFrom f 0 2048) = place f 4096 :=
  (((firstMin_placeFrom f 0 (n := 2048) (by norm_num)).merge (n' := 2048) (k' := placeFrom f 2048 2048)
    (by rw [Nat.zero_add]; exact firstMin_placeFrom f 2048 (by norm_num))).place_eq).symm

end Cert.FirstMin

end
-- ==== Proof.Tiles.lean ====
/-
  The squared distances one tile of the first call holds, at an index, and what the tile's reductions are: a row's (or a
  column's) minimum and the place of its first minimum. A row or a column is read as a sequence `f`, so that the same
  facts serve both tiles, every batch and every half.
-/
module

public import proofs.«01_k».proof.Proof.Gen.KernelIdeal.Frame
public import proofs.«01_k».proof.Proof.FirstMin
public import Idealize.ShloMosaic.Lib.Pipeline.ValueKit
public import Idealize.ShloMosaic.Lib.Pointwise

@[expose] public section

set_option maxRecDepth 16384

noncomputable section

namespace Cert.KernelIdeal.Tiles

open Idealize.ShloMosaic Cert.KernelIdeal Cert.KernelIdeal.Gen Cert.FirstMin

/-! ## One tile of squared distances -/

/-- The first tile: rows 0 to 1023 of the block against every column. -/
theorem tile0 (x0 : Vec Ideal S1x3x2048 .f32) (x1 : Vec Ideal S1x3x4096 .f32) (p : Fin 1024) (q : Fin 4096) :
    k0_pay11 x0 x1 (ix2 p q) = sqd (fun c => x0 (ix3 0 c ⟨p.val, by omega⟩)) (fun c => x1 (ix3 0 c q)) := by
  pointwise [k0_pay11, k0_pay7, k0_pay8, k0_pay9, k0_pay10]
  rw [ofBits_two]; rfl

/-- The second tile: rows 1024 to 2047 of the block against every column. -/
theorem tile1 (x0 : Vec Ideal S1x3x2048 .f32) (x1 : Vec Ideal S1x3x4096 .f32) (p : Fin 1024) (q : Fin 4096) :
    k0_pay18 (k0_pay7 x0) (k0_pay8 x1) (k0_pay9 x0) (k0_pay10 x1) (ix2 p q)
      = sqd (fun c => x0 (ix3 0 c ⟨1024 + p.val, by omega⟩)) (fun c => x1 (ix3 0 c q)) := by
  pointwise [k0_pay18, k0_pay7, k0_pay8, k0_pay9, k0_pay10]
  rw [ofBits_two]; rfl

/-! ## What the reductions of a tile `d` are, its row or column read as a sequence -/

/-- A row's minimum. -/
theorem rowMin (d : FVec Ideal S1024x4096 .f32) (p : Fin 1024) {f : ℕ → EReal} {k : ℕ} (h : FirstMin f 0 4096 k)
    (hd : ∀ q : Fin 4096, d (ix2 p q) = f q.val) :
    multiReduction .minimumf [1] S1024 d 0x7F800000#32 reduces_S1024x4096_S1024 (.inl rfl) rfl (ix1 p) = f k := by
  pointwise
  rw [ofBits_top, h.fold_min _ fun i => by rw [Nat.zero_add]; exact hd i]

/-- The stored square roots of a vector, at an index. -/
theorem sqrtStored (e : FVec Ideal S1024 .f32) (p : Fin 1024) :
    shapeCast S1x1x1024 (sqrt e) shapeCasts_S1024_S1x1x1024 (ix3 0 0 p) = Ideal.sqrt (e (ix1 p)) := by
  pointwise

/-- The square root of a row's minimum, at the row's place in the stored block. -/
theorem sqrtRowMin (d : FVec Ideal S1024x4096 .f32) (p : Fin 1024) {f : ℕ → EReal} {k : ℕ} (h : FirstMin f 0 4096 k)
    (hd : ∀ q : Fin 4096, d (ix2 p q) = f q.val) :
    shapeCast S1x1x1024 (sqrt (multiReduction .minimumf [1] S1024 d 0x7F800000#32 reduces_S1024x4096_S1024 (.inl rfl) rfl))
      shapeCasts_S1024_S1x1x1024 (ix3 0 0 p) = Ideal.sqrt (f k) :=
  (sqrtStored _ p).trans (congrArg Ideal.sqrt (rowMin d p h hd))

/-- The place of a row's first minimum, at the row's place in the stored block. -/
theorem rowArg (d : FVec Ideal S1024x4096 .f32) (p : Fin 1024) {f : ℕ → EReal} {k : ℕ} (h : FirstMin f 0 4096 k)
    (hd : ∀ q : Fin 4096, d (ix2 p q) = f q.val) :
    shapeCast S1x1x1024 (multiReductionI .minsi [1] S1024
        (select (cmpf .oeq d (broadcastTo S1024x4096 (shapeCast S1024x1
            (multiReduction .minimumf [1] S1024 d 0x7F800000#32 reduces_S1024x4096_S1024 (.inl rfl) rfl) shapeCasts_S1024_S1024x1)
            broadcasts_S1024x1_S1024x4096))
          (iota .tc S1024x4096 32 [1] iota_S1024x4096_d1_w32) (broadcast S1024x4096 4096#32))
        2147483647#32 reduces_S1024x4096_S1024 rfl) shapeCasts_S1024_S1x1x1024 (ix3 0 0 p) = BitVec.ofNat 32 k := by
  pointwise
  have hm := h.fold_min (fun q : Fin 4096 => d (ix2 p q)) fun i => by rw [Nat.zero_add]; exact hd i
  rw [ofBits_top, hm]
  exact h.fold_minsi (by norm_num) (fun q : Fin 4096 => d (ix2 p q)) (fun q => by rw [Nat.zero_add]; exact hd q) _ fun _ => rfl

/-- A column's minimum. -/
theorem colMin (d : FVec Ideal S1024x4096 .f32) (q : Fin 4096) {f : ℕ → EReal} {a k : ℕ} (h : FirstMin f a 1024 k)
    (hd : ∀ p : Fin 1024, d (ix2 p q) = f (a + p.val)) : k0_pay3 d (ix1 q) = f k := by
  unfold k0_pay3
  pointwise
  rw [ofBits_top, h.fold_min _ hd]

/-- The places of the columns' first minima within a tile. -/
def colPlaces (d : FVec Ideal S1024x4096 .f32) : IVec S4096 32 :=
  multiReductionI .minsi [0] S4096
    (select (cmpf .oeq d (broadcastTo S1024x4096 (shapeCast S1x4096 (k0_pay3 d) shapeCasts_S4096_S1x4096)
        broadcasts_S1x4096_S1024x4096))
      (iota .tc S1024x4096 32 [0] iota_S1024x4096_d0_w32) (broadcast S1024x4096 1024#32))
    2147483647#32 reduces_S1024x4096_S4096 rfl

/-- The place of a column's first minimum within the tile. -/
theorem colArg (d : FVec Ideal S1024x4096 .f32) (q : Fin 4096) {f : ℕ → EReal} {a k : ℕ} (h : FirstMin f a 1024 k)
    (hd : ∀ p : Fin 1024, d (ix2 p q) = f (a + p.val)) : colPlaces d (ix1 q) = BitVec.ofNat 32 (k - a) := by
  have hm := colMin d q h hd
  unfold colPlaces
  generalize k0_pay3 d = e at hm ⊢
  pointwise
  rw [hm]
  exact h.fold_minsi (by norm_num) (fun p : Fin 1024 => d (ix2 p q)) hd _ fun _ => rfl

/-- The word of a column's place in the whole array: the tile's place in the block and the block's place added. -/
theorem place_word {a o k : ℕ} (hk : a + o ≤ k) (hk' : k < 2 ^ 31) :
    IntOp.addi (BitVec.ofNat 32 (k - (a + o))) (IntOp.addi (BitVec.ofNat 32 a) (BitVec.ofNat 32 o)) = BitVec.ofNat 32 k := by
  unfold IntOp.addi
  rw [← BitVec.ofNat_add, ← BitVec.ofNat_add]
  congr 1
  omega

end Cert.KernelIdeal.Tiles

end
-- ==== Proof.Blocks.lean ====
/-
  What each grid point leaves in its output blocks, from its input blocks, at the ideal instance. A point of the first
  call holds one half of the first array's points of a batch and all of the second's, in two tiles of 1024 rows: for each
  row the root of the least squared distance and its first place, for each column the least squared distance over the
  half's rows and the row's number in the whole array. A point of the second call merges the two halves of a batch.
-/
module

public import proofs.«01_k».proof.Proof.Tiles

@[expose] public section

set_option maxRecDepth 16384

noncomputable section

namespace Cert.KernelIdeal.Blocks

open Idealize.ShloMosaic Cert.KernelIdeal Cert.KernelIdeal.Gen Cert.FirstMin Cert.KernelIdeal.Tiles

theorem hz : (![0, 0, 0] : Fin 3 → Nat) = fun _ => 0 := funext fun a => by fin_cases a <;> rfl

theorem ld_x0 (x0 : Vec Ideal S1x3x2048 .f32) : View.ld x0 r0_0 = x0 := View.ld_unit_zero (S := S1x3x2048) hz _ _
theorem ld_x1 (x1 : Vec Ideal S1x3x4096 .f32) : View.ld x1 r0_1 = x1 := View.ld_unit_zero (S := S1x3x4096) hz _ _

/-- A stored row of 1024 entries is read at a place of its one row. -/
theorem row1024 {α : Type} {v : S1x1x1024.Idx → α} {w : α} (x : S1x1x1024.Idx)
    (h : ∀ p : Fin 1024, p.val = (x 2).val → v (ix3 0 0 p) = w) : v x = w := by
  idx_vars x
  obtain rfl : x0 = 0 := Subsingleton.elim _ _
  obtain rfl : x1 = 0 := Subsingleton.elim _ _
  exact h x2 rfl

/-- A stored row of 2048 entries is read at a place of its one row. -/
theorem row2048 {α : Type} {v : S1x1x2048.Idx → α} {w : α} (x : S1x1x2048.Idx)
    (h : ∀ p : Fin 2048, p.val = (x 2).val → v (ix3 0 0 p) = w) : v x = w := by
  idx_vars x
  obtain rfl : x0 = 0 := Subsingleton.elim _ _
  obtain rfl : x1 = 0 := Subsingleton.elim _ _
  exact h x2 rfl

/-- A stored row of 4096 entries is read at a place of its one row. -/
theorem row4096 {α : Type} {v : S1x1x4096.Idx → α} {w : α} (x : S1x1x4096.Idx)
    (h : ∀ p : Fin 4096, p.val = (x 2).val → v (ix3 0 0 p) = w) : v x = w := by
  idx_vars x
  obtain rfl : x0 = 0 := Subsingleton.elim _ _
  obtain rfl : x1 = 0 := Subsingleton.elim _ _
  exact h x2 rfl

/-! ## The first call, along the rows -/

/-- The stored distance of row `r`: the root of the least squared distance. -/
theorem out0_2_apply (i : grid0.Coords) (x0 : Vec Ideal S1x3x2048 .f32) (x1 : Vec Ideal S1x3x4096 .f32) (r : Fin 2048)
    {f : ℕ → EReal} {k : ℕ} (h : FirstMin f 0 4096 k)
    (hf : ∀ q : Fin 4096, f q.val = sqd (fun c => x0 (ix3 0 c r)) (fun c => x1 (ix3 0 c q))) :
    out0_2 i x0 x1 (ix3 0 0 r) = Ideal.sqrt (f k) := by
  unfold_out out0_2
  rw [ld_x0, ld_x1]
  canon_tiles x hx
  · refine row1024 x fun p hp => ?_
    have hd : ∀ q : Fin 4096, k0_pay18 (k0_pay7 x0) (k0_pay8 x1) (k0_pay9 x0) (k0_pay10 x1) (ix2 p q) = f q.val := fun q => by
      rw [tile1, hf q, show r = (⟨1024 + p.val, by omega⟩ : Fin 2048) from Fin.ext (hx2.trans (congrArg (1024 + ·) hp.symm))]
    unfold k0_pay1 k0_pay21 k0_pay19
    generalize k0_pay18 (k0_pay7 x0) (k0_pay8 x1) (k0_pay9 x0) (k0_pay10 x1) = d at hd ⊢
    exact sqrtRowMin d p h hd
  · refine row1024 x fun p hp => ?_
    have hd : ∀ q : Fin 4096, k0_pay11 x0 x1 (ix2 p q) = f q.val := fun q => by
      rw [tile0, hf q, show r = (⟨p.val, by omega⟩ : Fin 2048) from Fin.ext (hx2.trans hp.symm)]
    unfold k0_pay14 k0_pay12
    generalize k0_pay11 x0 x1 = d at hd ⊢
    exact sqrtRowMin d p h hd

/-- The stored place of row `r`: the first column at the least squared distance. -/
theorem out0_3_apply (i : grid0.Coords) (x0 : Vec Ideal S1x3x2048 .f32) (x1 : Vec Ideal S1x3x4096 .f32) (r : Fin 2048)
    {f : ℕ → EReal} {k : ℕ} (h : FirstMin f 0 4096 k)
    (hf : ∀ q : Fin 4096, f q.val = sqd (fun c => x0 (ix3 0 c r)) (fun c => x1 (ix3 0 c q))) :
    out0_3 i x0 x1 (ix3 0 0 r) = BitVec.ofNat 32 k := by
  unfold_out out0_3
  rw [ld_x0, ld_x1]
  canon_tiles x hx
  · refine row1024 x fun p hp => ?_
    have hd : ∀ q : Fin 4096, k0_pay18 (k0_pay7 x0) (k0_pay8 x1) (k0_pay9 x0) (k0_pay10 x1) (ix2 p q) = f q.val := fun q => by
      rw [tile1, hf q, show r = (⟨1024 + p.val, by omega⟩ : Fin 2048) from Fin.ext (hx2.trans (congrArg (1024 + ·) hp.symm))]
    unfold k0_pay2 k0_pay20 k0_pay19
    generalize k0_pay18 (k0_pay7 x0) (k0_pay8 x1) (k0_pay9 x0) (k0_pay10 x1) = d at hd ⊢
    exact rowArg d p h hd
  · refine row1024 x fun p hp => ?_
    have hd : ∀ q : Fin 4096, k0_pay11 x0 x1 (ix2 p q) = f q.val := fun q => by
      rw [tile0, hf q, show r = (⟨p.val, by omega⟩ : Fin 2048) from Fin.ext (hx2.trans hp.symm)]
    unfold k0_pay15 k0_pay13 k0_pay12
    generalize k0_pay11 x0 x1 = d at hd ⊢
    exact rowArg d p h hd

/-! ## The first call, along the columns -/

/-- The first minimum of a half's rows is one of its two tiles' first minima: the later tile's only where it is less. -/
theorem halves {f : ℕ → EReal} {a k : ℕ} (h : FirstMin f a 2048 k) :
    ∃ k₁ k₂, FirstMin f a 1024 k₁ ∧ FirstMin f (a + 1024) 1024 k₂ ∧ (if f k₂ < f k₁ then k₂ else k₁) = k := by
  obtain ⟨k₁, h₁⟩ := FirstMin.exists_of_pos f a 1024 (by norm_num)
  obtain ⟨k₂, h₂⟩ := FirstMin.exists_of_pos f (a + 1024) 1024 (by norm_num)
  exact ⟨k₁, k₂, h₁, h₂, (h₁.merge h₂).unique h⟩

/-- The lesser of two stored rows, at a place. -/
theorem lesserAt (e₁ e₂ : FVec Ideal S4096 .f32) (q : Fin 4096) :
    shapeCast S1x1x4096 (select (cmpf .olt e₂ e₁) e₂ e₁) shapeCasts_S4096_S1x1x4096 (ix3 0 0 q)
      = if e₂ (ix1 q) < e₁ (ix1 q) then e₂ (ix1 q) else e₁ (ix1 q) := by
  pointwise

/-- The places of the lesser of two stored rows, each with a word added, at a place. -/
theorem lesserPlaceAt (e₁ e₂ : FVec Ideal S4096 .f32) (g₁ g₂ : IVec S4096 32) (w₁ w₂ : BitVec 32) (q : Fin 4096) :
    shapeCast S1x1x4096 (select (cmpf .olt e₂ e₁) (addi g₂ (broadcast S4096 w₂)) (addi g₁ (broadcast S4096 w₁)))
        shapeCasts_S4096_S1x1x4096 (ix3 0 0 q)
      = if e₂ (ix1 q) < e₁ (ix1 q) then IntOp.addi (g₂ (ix1 q)) w₂ else IntOp.addi (g₁ (ix1 q)) w₁ := by
  pointwise

/-- Two tiles' minima merged, at a column. -/
theorem mergeMin (d₁ d₂ : FVec Ideal S1024x4096 .f32) (q : Fin 4096) {u₁ u₂ : EReal} (h₁ : k0_pay3 d₁ (ix1 q) = u₁)
    (h₂ : k0_pay3 d₂ (ix1 q) = u₂) : k0_pay5 (k0_pay3 d₁) d₂ (ix3 0 0 q) = if u₂ < u₁ then u₂ else u₁ :=
  (lesserAt (k0_pay3 d₁) (k0_pay3 d₂) q).trans (by rw [h₁, h₂])

/-- Two tiles' places merged, at a column, the half's rows starting at row `a` of the array. -/
theorem mergeArg (d₁ d₂ : FVec Ideal S1024x4096 .f32) (q : Fin 4096) {f : ℕ → EReal} {a k₁ k₂ : ℕ} (ha : a + 2048 < 2 ^ 31)
    (h₁ : FirstMin f a 1024 k₁) (hd₁ : ∀ p : Fin 1024, d₁ (ix2 p q) = f (a + p.val))
    (h₂ : FirstMin f (a + 1024) 1024 k₂) (hd₂ : ∀ p : Fin 1024, d₂ (ix2 p q) = f (a + 1024 + p.val)) :
    k0_pay6 (BitVec.ofNat 32 a) (iota .tc S1024x4096 32 [0] iota_S1024x4096_d0_w32) (k0_pay3 d₁)
        (k0_pay17 (BitVec.ofNat 32 a) (iota .tc S1024x4096 32 [0] iota_S1024x4096_d0_w32) d₁) d₂ (ix3 0 0 q)
      = BitVec.ofNat 32 (if f k₂ < f k₁ then k₂ else k₁) := by
  have hw₁ := place_word (a := a) (o := 0) h₁.lo (by have := h₁.hi; omega)
  have hw₂ := place_word (a := a) (o := 1024) h₂.lo (by have := h₂.hi; omega)
  refine (lesserPlaceAt (k0_pay3 d₁) (k0_pay3 d₂) (colPlaces d₁) (colPlaces d₂) (Scalar.addi (BitVec.ofNat 32 a) 0#32)
    (Scalar.addi (BitVec.ofNat 32 a) 1024#32) q).trans ?_
  rw [colMin d₁ q h₁ hd₁, colMin d₂ q h₂ hd₂, colArg d₁ q h₁ hd₁, colArg d₂ q h₂ hd₂, apply_ite (BitVec.ofNat 32)]
  exact if_congr Iff.rfl hw₂ hw₁

/-- The word of the half's first row, as a point's body computes it. -/
theorem halfWord : ∀ i : Fin 8,
    Scalar.muli (Scalar.select (Scalar.andi (Scalar.xori (Scalar.cmpi .slt (Scalar.remsi (BitVec.ofNat 32 i.val)
        (Scalar.select (Scalar.cmpi .eq 2#32 0#32) 1#32 2#32)) 0#32)
          (Scalar.cmpi .slt (Scalar.select (Scalar.cmpi .eq 2#32 0#32) 1#32 2#32) 0#32))
          (Scalar.cmpi .ne (Scalar.remsi (BitVec.ofNat 32 i.val) (Scalar.select (Scalar.cmpi .eq 2#32 0#32) 1#32 2#32)) 0#32))
        (Scalar.addi (Scalar.remsi (BitVec.ofNat 32 i.val) (Scalar.select (Scalar.cmpi .eq 2#32 0#32) 1#32 2#32))
          (Scalar.select (Scalar.cmpi .eq 2#32 0#32) 1#32 2#32))
        (Scalar.remsi (BitVec.ofNat 32 i.val) (Scalar.select (Scalar.cmpi .eq 2#32 0#32) 1#32 2#32))) 2048#32
      = BitVec.ofNat 32 (i.val % 2 * 2048) := by
  decide +kernel

/-- The stored minimum of column `q`: the least squared distance over the half's rows. -/
theorem out0_4_apply (i : grid0.Coords) (x0 : Vec Ideal S1x3x2048 .f32) (x1 : Vec Ideal S1x3x4096 .f32) (q : Fin 4096)
    {f : ℕ → EReal} {a k : ℕ} (h : FirstMin f a 2048 k)
    (hf : ∀ r : Fin 2048, f (a + r.val) = sqd (fun c => x0 (ix3 0 c r)) (fun c => x1 (ix3 0 c q))) :
    out0_4 i x0 x1 (ix3 0 0 q) = f k := by
  unfold_out out0_4
  rw [ld_x0, ld_x1]
  canon_tiles x hx
  refine row4096 x fun p hp => ?_
  obtain rfl : q = p := Fin.ext (hx2.trans hp.symm)
  obtain ⟨k₁, k₂, h₁, h₂, rfl⟩ := halves h
  have hd₁ : ∀ r : Fin 1024, k0_pay11 x0 x1 (ix2 r q) = f (a + r.val) := fun r =>
    (tile0 x0 x1 r q).trans (hf ⟨r.val, by omega⟩).symm
  have hd₂ : ∀ r : Fin 1024, k0_pay18 (k0_pay7 x0) (k0_pay8 x1) (k0_pay9 x0) (k0_pay10 x1) (ix2 r q) = f (a + 1024 + r.val) :=
    fun r => (tile1 x0 x1 r q).trans ((hf ⟨1024 + r.val, by omega⟩).symm.trans (congrArg f (Nat.add_assoc _ _ _).symm))
  exact (mergeMin _ _ q (colMin _ q h₁ hd₁) (colMin _ q h₂ hd₂)).trans (apply_ite f _ _ _).symm

/-- The stored place of column `q`: the first of the half's rows at the least squared distance, numbered in the array. -/
theorem out0_5_apply (i : grid0.Coords) (x0 : Vec Ideal S1x3x2048 .f32) (x1 : Vec Ideal S1x3x4096 .f32) (q : Fin 4096)
    {f : ℕ → EReal} {k : ℕ} (h : FirstMin f ((i 0).val % 2 * 2048) 2048 k)
    (hf : ∀ r : Fin 2048, f ((i 0).val % 2 * 2048 + r.val) = sqd (fun c => x0 (ix3 0 c r)) (fun c => x1 (ix3 0 c q))) :
    out0_5 i x0 x1 (ix3 0 0 q) = BitVec.ofNat 32 k := by
  unfold_out out0_5
  rw [ld_x0, ld_x1]
  obtain ⟨n, hn⟩ : ∃ n : Fin 8, (i 0).val = n.val := ⟨⟨(i 0).val, (i 0).isLt⟩, rfl⟩
  rw [hn] at h hf ⊢
  rw [halfWord n]
  canon_tiles x hx
  refine row4096 x fun p hp => ?_
  obtain rfl : q = p := Fin.ext (hx2.trans hp.symm)
  obtain ⟨k₁, k₂, h₁, h₂, rfl⟩ := halves h
  exact mergeArg _ _ q (by omega) h₁ (fun r => (tile0 x0 x1 r q).trans (hf ⟨r.val, by omega⟩).symm)
    h₂ fun r => (tile1 x0 x1 r q).trans ((hf ⟨1024 + r.val, by omega⟩).symm.trans (congrArg f (Nat.add_assoc _ _ _).symm))

/-! ## The second call -/

/-- The root of the lesser of two stored rows, at a place. -/
theorem rootLesserAt (e₁ e₂ : Vec Ideal S1x1x4096 .f32) (q : Fin 4096) :
    k1_pay4 e₁ e₂ (ix3 0 0 q)
      = Ideal.sqrt (if e₂ (ix3 0 0 q) < e₁ (ix3 0 0 q) then e₂ (ix3 0 0 q) else e₁ (ix3 0 0 q)) := by
  pointwise [k1_pay4, k1_pay3, k1_pay2, k1_pay1]

/-- The merged distance of column `q`: the root of the lesser of the halves' minima. -/
theorem out1_2_apply (x0 : Vec Ideal S2x1x4096 .f32) (x1 : Vec Ideal S2x1x4096 .i32) (q : Fin 4096) {u₁ u₂ : EReal}
    (h₁ : x0 (ix3 0 0 q) = u₁) (h₂ : x0 (ix3 1 0 q) = u₂) :
    out1_2 x0 x1 (ix3 0 0 q) = Ideal.sqrt (if u₂ < u₁ then u₂ else u₁) := by
  have hl₁ : View.ld x0 r1_0 (ix3 0 0 q) = u₁ := by pointwise; exact h₁
  have hl₂ : View.ld x0 r1_1 (ix3 0 0 q) = u₂ := by pointwise; exact h₂
  unfold out1_2
  canon_tiles x hx
  refine row4096 x fun p hp => ?_
  obtain rfl : q = p := Fin.ext (hx2.trans hp.symm)
  exact (rootLesserAt _ _ q).trans (by rw [hl₁, hl₂])

/-- The merged place of column `q`: the second half's only where its minimum is less. -/
theorem out1_3_apply (x0 : Vec Ideal S2x1x4096 .f32) (x1 : Vec Ideal S2x1x4096 .i32) (q : Fin 4096) {u₁ u₂ : EReal}
    (h₁ : x0 (ix3 0 0 q) = u₁) (h₂ : x0 (ix3 1 0 q) = u₂) {w₁ w₂ : BitVec 32}
    (hw₁ : x1 (ix3 0 0 q) = w₁) (hw₂ : x1 (ix3 1 0 q) = w₂) :
    out1_3 x0 x1 (ix3 0 0 q) = if u₂ < u₁ then w₂ else w₁ := by
  unfold out1_3
  canon_tiles x hx
  refine row4096 x fun p hp => ?_
  obtain rfl : q = p := Fin.ext (hx2.trans hp.symm)
  pointwise [k1_pay5, k1_pay3, k1_pay2, k1_pay1]
  rw [h₁, h₂]
  exact if_congr Iff.rfl hw₂ hw₁

end Cert.KernelIdeal.Blocks

end
-- ==== Proof.KernelRun.lean ====
/-
  The kernel's run with its results: the generated frame run, its launch restated with a postcondition that also names
  what the four result arrays hold at the end — the contents at the last boundary of @main (`W4`).
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- From any memory with zero counters @main runs to an end at which the four result arrays hold the last boundary's
    contents and the arguments are as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v4 (by decide)), h c _ (mem_uc main_v5 (by decide)),
       h c _ (mem_uc main_v6 (by decide)), h c _ (mem_uc main_v7 (by decide)),
       (h c _ (mem_uc main_arg0 (by decide))).trans (W4_main_arg0 m ρ c),
       (h c _ (mem_uc main_arg1 (by decide))).trans (W4_main_arg1 m ρ c)⟩)

end Cert.KernelIdeal.Run

end
-- ==== Proof.Arrays.lean ====
/-
  What the two calls' output arrays hold after the run, in closed form over the arguments: the first call's, whose blocks
  are the halves of the batches, and the second call's, which merges the halves; then the four results, which the reshapes
  at the end read off those arrays.
-/
module

public import proofs.«01_k».proof.Proof.Blocks
public import proofs.«01_k».proof.Proof.KernelRun
public import Idealize.ShloMosaic.Lib.Claim

@[expose] public section

set_option maxRecDepth 16384

noncomputable section

namespace Cert.KernelIdeal.Arrays

open Idealize.ShloMosaic Cert.KernelIdeal Cert.KernelIdeal.Gen Cert.FirstMin Cert.KernelIdeal.Blocks
open Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- The first argument at launch. -/
abbrev argA : (⟨3, ![4, 4096, 3]⟩ : Shape).Idx → EReal := m ((c : Thread nD τ).loc main_arg0)

/-- The second argument at launch. -/
abbrev argB : (⟨3, ![4, 4096, 3]⟩ : Shape).Idx → EReal := m ((c : Thread nD τ).loc main_arg1)

/-! ## The first call's input blocks -/

/-- The first operand is the first argument with its last two axes exchanged. -/
theorem V1_v0 (b : Fin 4) (k : Fin 3) (n : Fin 4096) : V1 m ρ c main_v0 (ix3 b k n) = argA m c (ix3 b n k) := by
  show StableHlo.after hostOps0 (W0 m ρ c) (Proc.devRef .tc main_v0) (ix3 b k n) = _
  entry_read
  pointwise

/-- The second operand is the second argument with its last two axes exchanged. -/
theorem V1_v1 (b : Fin 4) (k : Fin 3) (n : Fin 4096) : V1 m ρ c main_v1 (ix3 b k n) = argB m c (ix3 b n k) := by
  show StableHlo.after hostOps0 (W0 m ρ c) (Proc.devRef .tc main_v1) (ix3 b k n) = _
  entry_read
  pointwise

/-- The first call's block indices: point `t` holds half `t % 2` of batch `t / 2`. -/
theorem idx0 : ∀ t : Fin grid0.N, win0_0.index t = ![t.val / 2, 0, t.val % 2] ∧ win0_1.index t = ![t.val / 2, 0, 0]
    ∧ win0_2.index t = ![t.val, 0, 0] ∧ win0_3.index t = ![t.val, 0, 0] ∧ win0_4.index t = ![t.val, 0, 0]
    ∧ win0_5.index t = ![t.val, 0, 0] ∧ (grid0.coords t 0).val = t.val := by decide +kernel

/-- The second call's block indices: point `t` holds batch `t`. -/
theorem idx1 : ∀ t : Fin grid1.N, win1_0.index t = ![t.val, 0, 0] ∧ win1_1.index t = ![t.val, 0, 0]
    ∧ win1_2.index t = ![t.val, 0, 0] ∧ win1_3.index t = ![t.val, 0, 0] := by decide +kernel

/-- A point of the first block. -/
theorem pt_blk0 (t : Fin cfg0.N) (r : Fin 2048) (b : Fin 4) (n : ℕ) (hb : b.val = t.val / 2)
    (hn : n = t.val % 2 * 2048 + r.val) : pt (argA m c) b n = fun k => iblk0 (V1 m ρ) c 0 t (ix3 0 k r) := by
  obtain ⟨n', rfl⟩ : ∃ n' : Fin 4096, n'.val = n := ⟨⟨n, by omega⟩, rfl⟩
  rw [pt_val]
  funext k
  refine (V1_v0 m ρ c b k n').symm.trans ?_
  blk_ext [iblk0, (idx0 t).1]

/-- A point of the second block. -/
theorem pt_blk1 (t : Fin cfg0.N) (q : Fin 4096) (b : Fin 4) (hb : b.val = t.val / 2) :
    pt (argB m c) b q.val = fun k => iblk0 (V1 m ρ) c 1 t (ix3 0 k q) := by
  rw [pt_val]
  funext k
  refine (V1_v1 m ρ c b k q).symm.trans ?_
  blk_ext [iblk0, (idx0 t).2.1]

/-! ## The first call's output arrays -/

/-- The batch that half `i` is of. -/
def batch (i : Fin 8) : Fin 4 := ⟨i.val / 2, by omega⟩

/-- The squared distances of row `n` of half `i`. -/
abbrev rowOf (i : Fin 8) (n : Fin 2048) : ℕ → EReal := rowSeq (argA m c) (argB m c) (batch i) (i.val % 2 * 2048 + n.val)

/-- The squared distances of column `n` of half `i`'s batch. -/
abbrev colOf (i : Fin 8) (n : Fin 4096) : ℕ → EReal := colSeq (argA m c) (argB m c) (batch i) n.val

/-- The place of column `n`'s first minimum over half `i`. -/
abbrev halfPlace (i : Fin 8) (n : Fin 4096) : ℕ := placeFrom (colOf m c i n) (i.val % 2 * 2048) 2048

/-- What the first call's output arrays hold: the rows' distances and places, and each half's minimum of every column and
    its place. -/
def G0_2 : S8x1x2048.Idx → EReal := fun i => Ideal.sqrt (rowOf m c (i 0) (i 2) (place (rowOf m c (i 0) (i 2)) 4096))
def G0_3 : S8x1x2048.Idx → BitVec 32 := fun i => BitVec.ofNat 32 (place (rowOf m c (i 0) (i 2)) 4096)
def G0_4 : S8x1x4096.Idx → EReal := fun i => colOf m c (i 0) (i 2) (halfPlace m c (i 0) (i 2))
def G0_5 : S8x1x4096.Idx → BitVec 32 := fun i => BitVec.ofNat 32 (halfPlace m c (i 0) (i 2))

/-- A point's row of squared distances, in its blocks. -/
theorem row_blk (t : Fin cfg0.N) (i : Fin 8) (hi : i.val = t.val) (r : Fin 2048) (q : Fin 4096) :
    rowOf m c i r q.val
      = sqd (fun k => iblk0 (V1 m ρ) c 0 t (ix3 0 k r)) (fun k => iblk0 (V1 m ρ) c 1 t (ix3 0 k q)) := by
  have hb : (batch i).val = t.val / 2 := congrArg (· / 2) hi
  unfold rowOf rowSeq
  rw [pt_blk0 m ρ c t r (batch i) _ hb (by rw [hi]), pt_blk1 m ρ c t q (batch i) hb]

/-- A point's column of squared distances, in its blocks. -/
theorem col_blk (t : Fin cfg0.N) (i : Fin 8) (hi : i.val = t.val) (r : Fin 2048) (q : Fin 4096) :
    colOf m c i q (i.val % 2 * 2048 + r.val)
      = sqd (fun k => iblk0 (V1 m ρ) c 0 t (ix3 0 k r)) (fun k => iblk0 (V1 m ρ) c 1 t (ix3 0 k q)) := by
  have hb : (batch i).val = t.val / 2 := congrArg (· / 2) hi
  unfold colOf colSeq
  rw [pt_blk0 m ρ c t r (batch i) _ hb (by rw [hi]), pt_blk1 m ρ c t q (batch i) hb]

/-- An index of an output array of the first call, from its coordinates. -/
theorem ix_of {n : ℕ} (j : (⟨3, ![8, 1, n]⟩ : Shape).Idx) (i : Fin 8) (r : Fin n) (h0 : (j 0).val = i.val) (h2 : (j 2).val = r.val) :
    j = ix3 i 0 r := by
  obtain ⟨j0, j1, j2, rfl⟩ : ∃ (j0 : Fin 8) (j1 : Fin 1) (j2 : Fin n), j = ix3 j0 j1 j2 := ⟨j 0, j 1, j 2, eq_ix3 j⟩
  obtain rfl : j0 = i := Fin.ext h0
  obtain rfl : j2 = r := Fin.ext h2
  obtain rfl : j1 = 0 := Subsingleton.elim _ _
  rfl

/-- The half a point of the first call works on. -/
def half (t : Fin cfg0.N) : Fin 8 := ⟨t.val, t.isLt⟩

theorem arr0_2 : (dat0 (V1 m ρ) c).arrAt 2 cfg0.N = G0_2 m c := by
  refine (dat0 (V1 m ρ) c).arrAt_eq_of_covers 2 _ (by decide +kernel) fun t hf y => ?_
  blk_simp
  rw [after0_2]
  refine row2048 _ fun r hr => ?_
  rw [ix_of ((win0_2.blk t).view.emb y) (half t) r (by blk_simp [(idx0 t).2.2.1]; rfl) (by blk_simp [(idx0 t).2.2.1]; exact hr.symm)]
  exact out0_2_apply _ _ _ r (firstMin_place _ (by norm_num)) fun q => row_blk m ρ c t (half t) rfl r q

theorem arr0_3 : (dat0 (V1 m ρ) c).arrAt 3 cfg0.N = G0_3 m c := by
  refine (dat0 (V1 m ρ) c).arrAt_eq_of_covers 3 _ (by decide +kernel) fun t hf y => ?_
  blk_simp
  rw [after0_3]
  refine row2048 _ fun r hr => ?_
  rw [ix_of ((win0_3.blk t).view.emb y) (half t) r (by blk_simp [(idx0 t).2.2.2.1]; rfl)
    (by blk_simp [(idx0 t).2.2.2.1]; exact hr.symm)]
  exact out0_3_apply _ _ _ r (firstMin_place _ (by norm_num)) fun q => row_blk m ρ c t (half t) rfl r q

theorem arr0_4 : (dat0 (V1 m ρ) c).arrAt 4 cfg0.N = G0_4 m c := by
  refine (dat0 (V1 m ρ) c).arrAt_eq_of_covers 4 _ (by decide +kernel) fun t hf y => ?_
  blk_simp
  rw [after0_4]
  refine row4096 _ fun q hq => ?_
  rw [ix_of ((win0_4.blk t).view.emb y) (half t) q (by blk_simp [(idx0 t).2.2.2.2.1]; rfl)
    (by blk_simp [(idx0 t).2.2.2.2.1]; exact hq.symm)]
  exact out0_4_apply _ _ _ q (firstMin_placeFrom _ _ (by norm_num)) fun r => col_blk m ρ c t (half t) rfl r q

theorem arr0_5 : (dat0 (V1 m ρ) c).arrAt 5 cfg0.N = G0_5 m c := by
  refine (dat0 (V1 m ρ) c).arrAt_eq_of_covers 5 _ (by decide +kernel) fun t hf y => ?_
  blk_simp
  rw [after0_5]
  refine row4096 _ fun q hq => ?_
  rw [ix_of ((win0_5.blk t).view.emb y) (half t) q (by blk_simp [(idx0 t).2.2.2.2.2.1]; rfl)
    (by blk_simp [(idx0 t).2.2.2.2.2.1]; exact hq.symm)]
  have ht : (half t).val = (grid0.coords t 0).val := (idx0 t).2.2.2.2.2.2.symm
  refine out0_5_apply (f := colOf m c (half t) q) _ _ _ q ?_ fun r => ?_
  · rw [← ht]; exact firstMin_placeFrom _ _ (by norm_num)
  · rw [← ht]; exact col_blk m ρ c t (half t) rfl r q

/-! ## The second call -/

theorem V2_v2_2 : V2 m ρ c main_v2_2 = G0_4 m c := (W2_arr m ρ c 4).trans (arr0_4 m ρ c)
theorem V2_v2_3 : V2 m ρ c main_v2_3 = G0_5 m c := (W2_arr m ρ c 5).trans (arr0_5 m ρ c)

/-- Half `h` of batch `b`. -/
def halfOf (b : Fin 4) (h : Fin 2) : Fin 8 := ⟨2 * b.val + h.val, by omega⟩

/-- The second call's minima: a batch's two halves. -/
theorem blk1_0 (t : Fin cfg1.N) (b : Fin 4) (hb : b.val = t.val) (h : Fin 2) (q : Fin 4096) :
    iblk1 (V2 m ρ) c 0 t (ix3 h 0 q) = G0_4 m c (ix3 (halfOf b h) 0 q) := by
  rw [← V2_v2_2 m ρ c]
  unfold halfOf
  blk_ext [iblk1, (idx1 t).1]

/-- The second call's places: a batch's two halves. -/
theorem blk1_1 (t : Fin cfg1.N) (b : Fin 4) (hb : b.val = t.val) (h : Fin 2) (q : Fin 4096) :
    iblk1 (V2 m ρ) c 1 t (ix3 h 0 q) = G0_5 m c (ix3 (halfOf b h) 0 q) := by
  rw [← V2_v2_3 m ρ c]
  unfold halfOf
  blk_ext [iblk1, (idx1 t).2.1]

/-- A column of a batch. -/
abbrev colAt (b : Fin 4) (n : Fin 4096) : ℕ → EReal := colSeq (argA m c) (argB m c) b n.val

/-- A row of a batch. -/
abbrev rowAt (b : Fin 4) (n : Fin 4096) : ℕ → EReal := rowSeq (argA m c) (argB m c) b n.val

theorem batch_halfOf (b : Fin 4) (h : Fin 2) : batch (halfOf b h) = b := by
  unfold batch halfOf; exact Fin.ext (by show (2 * b.val + h.val) / 2 = b.val; omega)

theorem G0_4_half (b : Fin 4) (h : Fin 2) (q : Fin 4096) :
    G0_4 m c (ix3 (halfOf b h) 0 q) = colAt m c b q (placeFrom (colAt m c b q) (h.val * 2048) 2048) := by
  show colSeq (argA m c) (argB m c) (batch (halfOf b h)) q.val
    (placeFrom (colSeq (argA m c) (argB m c) (batch (halfOf b h)) q.val) ((halfOf b h).val % 2 * 2048) 2048) = _
  rw [batch_halfOf, show (halfOf b h).val % 2 = h.val by unfold halfOf; show (2 * b.val + h.val) % 2 = h.val; omega]

theorem G0_5_half (b : Fin 4) (h : Fin 2) (q : Fin 4096) :
    G0_5 m c (ix3 (halfOf b h) 0 q) = BitVec.ofNat 32 (placeFrom (colAt m c b q) (h.val * 2048) 2048) := by
  show BitVec.ofNat 32
    (placeFrom (colSeq (argA m c) (argB m c) (batch (halfOf b h)) q.val) ((halfOf b h).val % 2 * 2048) 2048) = _
  rw [batch_halfOf, show (halfOf b h).val % 2 = h.val by unfold halfOf; show (2 * b.val + h.val) % 2 = h.val; omega]

/-- What the second call's output arrays hold: the columns' distances and places. -/
def G1_2 : S4x1x4096.Idx → EReal := fun i => Ideal.sqrt (colAt m c (i 0) (i 2) (place (colAt m c (i 0) (i 2)) 4096))
def G1_3 : S4x1x4096.Idx → BitVec 32 := fun i => BitVec.ofNat 32 (place (colAt m c (i 0) (i 2)) 4096)

/-- An index of an output array of the second call, from its coordinates. -/
theorem ix_of' (j : S4x1x4096.Idx) (b : Fin 4) (r : Fin 4096) (h0 : (j 0).val = b.val) (h2 : (j 2).val = r.val) :
    j = ix3 b 0 r := by
  idx_vars j
  obtain rfl : j0 = b := Fin.ext h0
  obtain rfl : j2 = r := Fin.ext h2
  obtain rfl : j1 = 0 := Subsingleton.elim _ _
  rfl

/-- The batch a point of the second call works on. -/
def batchOf (t : Fin cfg1.N) : Fin 4 := ⟨t.val, t.isLt⟩

theorem arr1_2 : (dat1 (V2 m ρ) c).arrAt 2 cfg1.N = G1_2 m c := by
  refine (dat1 (V2 m ρ) c).arrAt_eq_of_covers 2 _ (by decide +kernel) fun t hf y => ?_
  blk_simp
  rw [after1_2]
  refine row4096 _ fun q hq => ?_
  rw [ix_of' ((win1_2.blk t).view.emb y) (batchOf t) q (by blk_simp [(idx1 t).2.2.1]; rfl)
    (by blk_simp [(idx1 t).2.2.1]; exact hq.symm)]
  refine (out1_2_apply _ _ q ((blk1_0 m ρ c t (batchOf t) rfl 0 q).trans (G0_4_half m c _ _ _))
    ((blk1_0 m ρ c t (batchOf t) rfl 1 q).trans (G0_4_half m c _ _ _))).trans ?_
  refine congrArg Ideal.sqrt ((apply_ite (colAt m c (batchOf t) q) _ _ _).symm.trans ?_)
  exact congrArg (colAt m c (batchOf t) q) (place_halves (colAt m c (batchOf t) q))

theorem arr1_3 : (dat1 (V2 m ρ) c).arrAt 3 cfg1.N = G1_3 m c := by
  refine (dat1 (V2 m ρ) c).arrAt_eq_of_covers 3 _ (by decide +kernel) fun t hf y => ?_
  blk_simp
  rw [after1_3]
  refine row4096 _ fun q hq => ?_
  rw [ix_of' ((win1_3.blk t).view.emb y) (batchOf t) q (by blk_simp [(idx1 t).2.2.2]; rfl)
    (by blk_simp [(idx1 t).2.2.2]; exact hq.symm)]
  refine (out1_3_apply _ _ q ((blk1_0 m ρ c t (batchOf t) rfl 0 q).trans (G0_4_half m c _ _ _))
    ((blk1_0 m ρ c t (batchOf t) rfl 1 q).trans (G0_4_half m c _ _ _))
    ((blk1_1 m ρ c t (batchOf t) rfl 0 q).trans (G0_5_half m c _ _ _))
    ((blk1_1 m ρ c t (batchOf t) rfl 1 q).trans (G0_5_half m c _ _ _))).trans ?_
  exact (apply_ite (BitVec.ofNat 32) _ _ _).symm.trans (congrArg (BitVec.ofNat 32) (place_halves (colAt m c (batchOf t) q)))

/-! ## The results -/

theorem W3_v2_0 : W3 m ρ c (Proc.devRef .tc main_v2_0) = G0_2 m c :=
  (W3_of_ne m ρ c main_v2_0 (by decide)).trans ((W2_arr m ρ c 2).trans (arr0_2 m ρ c))
theorem W3_v2_1 : W3 m ρ c (Proc.devRef .tc main_v2_1) = G0_3 m c :=
  (W3_of_ne m ρ c main_v2_1 (by decide)).trans ((W2_arr m ρ c 3).trans (arr0_3 m ρ c))
theorem W3_v3_0 : W3 m ρ c (Proc.devRef .tc main_v3_0) = G1_2 m c := (W3_arr m ρ c 2).trans (arr1_2 m ρ c)
theorem W3_v3_1 : W3 m ρ c (Proc.devRef .tc main_v3_1) = G1_3 m c := (W3_arr m ρ c 3).trans (arr1_3 m ρ c)

/-- A row of a batch in the half that holds it. -/
theorem rowOf_eq (b : Fin 4) (n : Fin 4096) :
    rowOf m c ⟨b.val * 2 + n.val / 2048, by omega⟩ ⟨n.val % 2048, by omega⟩ = rowAt m c b n := by
  unfold rowOf rowAt
  congr 1
  · exact Fin.ext (by show (b.val * 2 + n.val / 2048) / 2 = b.val; omega)
  · show (b.val * 2 + n.val / 2048) % 2 * 2048 + n.val % 2048 = n.val
    omega

/-- The first result: the rows' distances. -/
theorem res4 (b : Fin 4) (n : Fin 4096) : W4 m ρ c (Proc.devRef .tc main_v4) (ix2 b n)
    = Ideal.sqrt (rowAt m c b n (place (rowAt m c b n) 4096)) := by
  after_results
  rw [W3_v2_0]
  pointwise
  exact congrArg (fun f => Ideal.sqrt (f (place f 4096))) (rowOf_eq m c b n)

/-- The second result: the columns' distances. -/
theorem res5 (b : Fin 4) (n : Fin 4096) : W4 m ρ c (Proc.devRef .tc main_v5) (ix2 b n)
    = Ideal.sqrt (colAt m c b n (place (colAt m c b n) 4096)) := by
  after_results
  rw [W3_v3_0]
  pointwise
  rfl

/-- The third result: the rows' places. -/
theorem res6 (b : Fin 4) (n : Fin 4096) : W4 m ρ c (Proc.devRef .tc main_v6) (ix2 b n)
    = BitVec.ofNat 32 (place (rowAt m c b n) 4096) := by
  after_results
  rw [W3_v2_1]
  pointwise
  exact congrArg (fun f => BitVec.ofNat 32 (place f 4096)) (rowOf_eq m c b n)

/-- The fourth result: the columns' places. -/
theorem res7 (b : Fin 4) (n : Fin 4096) : W4 m ρ c (Proc.devRef .tc main_v7) (ix2 b n)
    = BitVec.ofNat 32 (place (colAt m c b n) 4096) := by
  after_results
  rw [W3_v3_1]
  pointwise
  rfl

/-- The four results in closed form: the rows' distances, the columns', the rows' places and the columns'. -/
def R4 : S4x4096.Idx → EReal := fun i => Ideal.sqrt (rowAt m c (i 0) (i 1) (place (rowAt m c (i 0) (i 1)) 4096))
def R5 : S4x4096.Idx → EReal := fun i => Ideal.sqrt (colAt m c (i 0) (i 1) (place (colAt m c (i 0) (i 1)) 4096))
def R6 : S4x4096.Idx → BitVec 32 := fun i => BitVec.ofNat 32 (place (rowAt m c (i 0) (i 1)) 4096)
def R7 : S4x4096.Idx → BitVec 32 := fun i => BitVec.ofNat 32 (place (colAt m c (i 0) (i 1)) 4096)

theorem W4_v4 : W4 m ρ c (Proc.devRef .tc main_v4) = R4 m c :=
  funext fun (i : S4x4096.Idx) => by rw [eq_ix2 i]; exact res4 m ρ c (i 0) (i 1)
theorem W4_v5 : W4 m ρ c (Proc.devRef .tc main_v5) = R5 m c :=
  funext fun (i : S4x4096.Idx) => by rw [eq_ix2 i]; exact res5 m ρ c (i 0) (i 1)
theorem W4_v6 : W4 m ρ c (Proc.devRef .tc main_v6) = R6 m c :=
  funext fun (i : S4x4096.Idx) => by rw [eq_ix2 i]; exact res6 m ρ c (i 0) (i 1)
theorem W4_v7 : W4 m ρ c (Proc.devRef .tc main_v7) = R7 m c :=
  funext fun (i : S4x4096.Idx) => by rw [eq_ix2 i]; exact res7 m ρ c (i 0) (i 1)

open Idealize.SL.Sem in
/-- The kernel's run: the four results in closed form, the arguments as launched. -/
theorem run : θ_run (defs (F := Ideal)) (onTc (τ := τ) (main (F := Ideal))) ⟨m, fun _ => 0, ρ⟩ (fun r => ∀ c : Dev nD,
      r.2.mem ((c.tc : Thread nD τ).loc main_v4) = R4 m c
      ∧ r.2.mem ((c.tc : Thread nD τ).loc main_v5) = R5 m c
      ∧ r.2.mem ((c.tc : Thread nD τ).loc main_v6) = R6 m c
      ∧ r.2.mem ((c.tc : Thread nD τ).loc main_v7) = R7 m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Run.run m ρ) fun r h c => ?_
  obtain ⟨h4, h5, h6, h7, ha, hb⟩ := h c
  exact ⟨h4.trans (W4_v4 m ρ c), h5.trans (W4_v5 m ρ c), h6.trans (W4_v6 m ρ c), h7.trans (W4_v7 m ρ c), ha, hb⟩

end Cert.KernelIdeal.Arrays

end
-- ==== Proof.Ref.lean ====
/-
  The reference read as mathematics: the square roots of the squared distances (`rootDist`), their minimum along either
  axis, and the place of the first minimum that its arg-min returns. The arg-min's fold keeps, of the pairs (value, place)
  it is given, one that is least in the order "value first, then place" (`foldl_least`), whatever their order.
-/
module

public import proofs.«01_k».proof.Proof.Gen.ReferenceIdeal
public import proofs.«01_k».proof.Proof.FirstMin
public import Idealize.ShloMosaic.Lib.Pointwise

@[expose] public section

set_option maxRecDepth 16384

noncomputable section

namespace Cert.ReferenceIdeal.Ref

open Idealize.ShloMosaic Cert.ReferenceIdeal Cert.ReferenceIdeal.Gen Cert.FirstMin

/-! ## The arg-min's fold -/

/-- The order of the arg-min: by value, on equal values by place. -/
def Le (p q : EReal × BitVec 32) : Prop := p.1 < q.1 ∨ p.1 = q.1 ∧ p.2.toInt ≤ q.2.toInt

theorem Le.refl (p : EReal × BitVec 32) : Le p p := .inr ⟨rfl, le_rfl⟩

theorem Le.trans {p q r : EReal × BitVec 32} (h : Le p q) (h' : Le q r) : Le p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- The arg-min's body returns one of its two pairs, the lesser. -/
theorem reducer_least (p q : EReal × BitVec 32) :
    (reducer_argmin_f32_i32 (F := Ideal) p q = p ∨ reducer_argmin_f32_i32 (F := Ideal) p q = q)
      ∧ Le (reducer_argmin_f32_i32 (F := Ideal) p q) p ∧ Le (reducer_argmin_f32_i32 (F := Ideal) p q) q := by
  obtain ⟨x, i⟩ := p
  obtain ⟨y, j⟩ := q
  have key : reducer_argmin_f32_i32 (F := Ideal) (x, i) (y, j) = if x < y ∨ x = y ∧ i.toInt < j.toInt then (x, i) else (y, j) := by
    unfold reducer_argmin_f32_i32
    rcases lt_trichotomy x y with h | h | h
    · simp [Ideal.cmpf_def, Ideal.cmp, Scalar.select, IntOp.ori, IntOp.andi, h, h.ne]
    · subst h
      by_cases hij : i.toInt < j.toInt <;>
        simp [Ideal.cmpf_def, Ideal.cmp, Scalar.select, IntOp.ori, IntOp.andi, IntOp.cmpi, BitVec.slt, hij]
    · simp [Ideal.cmpf_def, Ideal.cmp, Scalar.select, IntOp.ori, IntOp.andi, not_lt.mpr h.le, h.ne']
  rw [key]
  split
  · rename_i h
    exact ⟨.inl rfl, Le.refl _, h.imp id fun h => ⟨h.1, h.2.le⟩⟩
  · rename_i h
    refine ⟨.inr rfl, ?_, Le.refl _⟩
    rw [not_or, not_and, not_lt, not_lt] at h
    rcases h.1.lt_or_eq with hlt | heq
    · exact .inl hlt
    · exact .inr ⟨heq, h.2 heq.symm⟩

/-- The fold returns one of the pairs it is given (or the initial pair), and none is less. -/
theorem foldl_least (l : List (EReal × BitVec 32)) (z : EReal × BitVec 32) :
    (l.foldl (reducer_argmin_f32_i32 (F := Ideal)) z = z ∨ l.foldl (reducer_argmin_f32_i32 (F := Ideal)) z ∈ l)
      ∧ Le (l.foldl (reducer_argmin_f32_i32 (F := Ideal)) z) z
      ∧ ∀ p ∈ l, Le (l.foldl (reducer_argmin_f32_i32 (F := Ideal)) z) p := by
  induction l generalizing z with
  | nil => exact ⟨.inl rfl, Le.refl _, fun p hp => absurd hp (List.not_mem_nil)⟩
  | cons q l ih =>
    obtain ⟨hm, hz, hl⟩ := ih (reducer_argmin_f32_i32 (F := Ideal) z q)
    obtain ⟨he, hez, heq⟩ := reducer_least z q
    rw [List.foldl_cons]
    refine ⟨?_, hz.trans hez, fun p hp => ?_⟩
    · rcases hm with hm | hm
      · rcases he with he | he
        · exact .inl (hm.trans he)
        · exact .inr (by rw [hm, he]; exact List.mem_cons_self)
      · exact .inr (List.mem_cons_of_mem _ hm)
    · rcases List.mem_cons.mp hp with rfl | hp
      · exact hz.trans heq
      · exact hl p hp

/-- Over the pairs (value of a sequence, word of the place), in any order, the fold ends at the first minimum. -/
theorem foldl_firstMin {f : ℕ → EReal} {n k : ℕ} (h : FirstMin f 0 n k) (hn : n < 2 ^ 31) (l : List (EReal × BitVec 32))
    (hl : ∀ p, p ∈ l ↔ ∃ q : Fin n, p = (f q.val, BitVec.ofNat 32 q.val)) :
    (l.foldl (reducer_argmin_f32_i32 (F := Ideal)) (⊤, 0#32)).2 = BitVec.ofNat 32 k := by
  have hk : k < n := by have := h.hi; omega
  have toInt : ∀ x : ℕ, x < 2 ^ 31 → (BitVec.ofNat 32 x).toInt = x := fun x hx => by
    rw [BitVec.toInt_eq_toNat_of_lt] <;> simp only [BitVec.toNat_ofNat] <;> omega
  obtain ⟨hm, hz, hle⟩ := foldl_least l (⊤, 0#32)
  generalize l.foldl (reducer_argmin_f32_i32 (F := Ideal)) (⊤, 0#32) = r at hm hz hle
  have hmk := hle _ ((hl _).mpr ⟨⟨k, hk⟩, rfl⟩)
  rcases hm with rfl | hm
  · -- the initial pair: then every value is the greatest, and place 0 is the first
    rcases hmk with hlt | ⟨heq, -⟩
    · exact absurd hlt not_top_lt
    · by_cases hk0 : k = 0
      · subst hk0; rfl
      · have hlt := h.lt 0 le_rfl (by omega)
        dsimp only at heq
        rw [← heq] at hlt
        exact absurd hlt not_top_lt
  · obtain ⟨q, rfl⟩ := (hl r).mp hm
    have hq : FirstMin f 0 n q.val := by
      refine ⟨Nat.zero_le _, by omega, fun j _ hj => ?_, fun j _ hj => ?_⟩
      · rcases hle _ ((hl _).mpr ⟨⟨j, by omega⟩, rfl⟩) with hlt | ⟨heq, -⟩
        · exact le_of_lt hlt
        · exact le_of_eq heq
      · rcases hle _ ((hl _).mpr ⟨⟨j, by omega⟩, rfl⟩) with hlt | ⟨heq, hi⟩
        · exact hlt
        · dsimp only at hi
          rw [toInt _ (by omega), toInt _ (by omega)] at hi
          omega
    rw [hq.unique h]

/-! ## The reference's operations at an index -/

/-- The reference's distances: the square roots of the squared distances of every pair of points. -/
abbrev rootDist (A B : FVec Ideal S4x4096x3 .f32) : FVec Ideal S4x4096x4096 .f32 :=
  Host.sqrt
    (maximumf
      (subf
        (addf
          (broadcastInDim S4x4096x4096 ![0, 1, 2] bcast_S4x4096x1_S4x4096x4096_0_1_2
            (broadcastInDim S4x4096x1 ![0, 1] bcast_S4x4096_S4x4096x1_0_1
              (Host.reduceAdd (mulf A A) (constant S_ .f32 0x00000000#32) reducesTo_S4x4096x3_S4x4096_d2 h_S_)))
          (broadcastInDim S4x4096x4096 ![0, 1, 2] bcast_S4x1x4096_S4x4096x4096_0_1_2
            (broadcastInDim S4x1x4096 ![0, 2] bcast_S4x4096_S4x1x4096_0_2
              (Host.reduceAdd (mulf B B) (constant S_ .f32 0x00000000#32) reducesTo_S4x4096x3_S4x4096_d2 h_S_))))
        (mulf (broadcastInDim S4x4096x4096 ![] bcast_S_S4x4096x4096 (constant S_ .f32 0x40000000#32))
          (Host.dotGeneral dot_S4x4096x3_S4x4096x3_S4x4096x4096_2_2_1_1_0_0 none A B)))
      (broadcastInDim S4x4096x4096 ![] bcast_S_S4x4096x4096 (constant S_ .f32 0x00000000#32)))

theorem rootDist_apply (A B : FVec Ideal S4x4096x3 .f32) (b : Fin 4) (n q : Fin 4096) :
    rootDist A B (ix3 b n q) = Ideal.sqrt (sqd (pt A b n.val) (pt B b q.val)) := by
  rw [pt_val, pt_val]
  pointwise
  rw [ofBits_two]
  rfl

/-- The minimum along the last axis. -/
theorem min_row (D : FVec Ideal S4x4096x4096 .f32) (b : Fin 4) (n : Fin 4096) {f : ℕ → EReal} {k : ℕ} (h : FirstMin f 0 4096 k)
    (hD : ∀ q : Fin 4096, D (ix3 b n q) = f q.val) :
    Host.reduce FloatOps.minimumf D (constant S_ .f32 0x7F800000#32) reducesTo_S4x4096x4096_S4x4096_d2 h_S_ (ix2 b n) = f k := by
  pointwise
  rw [ofBits_top]
  exact h.fold_min _ fun i => by rw [Nat.zero_add]; exact hD i

/-- The minimum along the middle axis. -/
theorem min_col (D : FVec Ideal S4x4096x4096 .f32) (b : Fin 4) (n : Fin 4096) {f : ℕ → EReal} {k : ℕ} (h : FirstMin f 0 4096 k)
    (hD : ∀ q : Fin 4096, D (ix3 b q n) = f q.val) :
    Host.reduce FloatOps.minimumf D (constant S_ .f32 0x7F800000#32) reducesTo_S4x4096x4096_S4x4096_d1 h_S_ (ix2 b n) = f k := by
  pointwise
  rw [ofBits_top]
  exact h.fold_min _ fun i => by rw [Nat.zero_add]; exact hD i

/-- The pairs an arg-min folds over are those of the source indices that drop to the result index. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The arg-min along the last axis. -/
theorem argmin_row (D : FVec Ideal S4x4096x4096 .f32) (b : Fin 4) (n : Fin 4096) {f : ℕ → EReal} {k : ℕ} (h : FirstMin f 0 4096 k)
    (hD : ∀ q : Fin 4096, D (ix3 b n q) = f q.val) :
    (Host.argReduce reducer_argmin_f32_i32 D (iotaInDim S4x4096x4096 32 2) (constant S_ .f32 0x7F800000#32) (constantI S_ 32 0#32)
      reducesTo_S4x4096x4096_S4x4096_d2 h_S_ (ix2 b n)).2 = BitVec.ofNat 32 k := by
  rw [Ideal.argReduce_eq_reduce2, Host.reduce2_eq_foldl_fiber]
  have e : ((constant S_ .f32 0x7F800000#32 : FVec Ideal S_ .f32) (Shape.Idx.first h_S_), constantI S_ 32 0#32 (Shape.Idx.first h_S_))
      = ((⊤ : EReal), 0#32) := by
    rw [← ofBits_top]; rfl
  rw [e]
  refine foldl_firstMin h (by norm_num) _ fun p => ?_
  rw [mem_fiber]
  constructor
  · rintro ⟨i, hi, rfl⟩
    obtain ⟨q, rfl⟩ := (Shape.ReducesTo.fiber_r3_a2 reducesTo_S4x4096x4096_S4x4096_d2 (ix2 b n) i).mp hi
    exact ⟨q, Prod.ext (hD q) rfl⟩
  · rintro ⟨q, rfl⟩
    exact ⟨ix3 b n q, (Shape.ReducesTo.fiber_r3_a2 reducesTo_S4x4096x4096_S4x4096_d2 (ix2 b n) _).mpr ⟨q, rfl⟩, Prod.ext (hD q).symm rfl⟩

/-- The arg-min along the middle axis. -/
theorem argmin_col (D : FVec Ideal S4x4096x4096 .f32) (b : Fin 4) (n : Fin 4096) {f : ℕ → EReal} {k : ℕ} (h : FirstMin f 0 4096 k)
    (hD : ∀ q : Fin 4096, D (ix3 b q n) = f q.val) :
    (Host.argReduce reducer_argmin_f32_i32 D (iotaInDim S4x4096x4096 32 1) (constant S_ .f32 0x7F800000#32) (constantI S_ 32 0#32)
      reducesTo_S4x4096x4096_S4x4096_d1 h_S_ (ix2 b n)).2 = BitVec.ofNat 32 k := by
  rw [Ideal.argReduce_eq_reduce2, Host.reduce2_eq_foldl_fiber]
  have e : ((constant S_ .f32 0x7F800000#32 : FVec Ideal S_ .f32) (Shape.Idx.first h_S_), constantI S_ 32 0#32 (Shape.Idx.first h_S_))
      = ((⊤ : EReal), 0#32) := by
    rw [← ofBits_top]; rfl
  rw [e]
  refine foldl_firstMin h (by norm_num) _ fun p => ?_
  rw [mem_fiber]
  constructor
  · rintro ⟨i, hi, rfl⟩
    obtain ⟨q, rfl⟩ := (Shape.ReducesTo.fiber_r3_a1 reducesTo_S4x4096x4096_S4x4096_d1 (ix2 b n) i).mp hi
    exact ⟨q, Prod.ext (hD q) rfl⟩
  · rintro ⟨q, rfl⟩
    exact ⟨ix3 b q n, (Shape.ReducesTo.fiber_r3_a1 reducesTo_S4x4096x4096_S4x4096_d1 (ix2 b n) _).mpr ⟨q, rfl⟩, Prod.ext (hD q).symm rfl⟩

/-! ## The reference's results -/

theorem rowSeq_nonneg (A B : FVec Ideal S4x4096x3 .f32) (b : Fin 4) (n j : ℕ) : 0 ≤ rowSeq A B b n j := sqd_nonneg _ _
theorem colSeq_nonneg (A B : FVec Ideal S4x4096x3 .f32) (b : Fin 4) (n j : ℕ) : 0 ≤ colSeq A B b n j := sqd_nonneg _ _

/-- The rows' distances: the root of the least squared distance. -/
theorem dist_row (A B : FVec Ideal S4x4096x3 .f32) (b : Fin 4) (n : Fin 4096) :
    Host.reduce FloatOps.minimumf (rootDist A B) (constant S_ .f32 0x7F800000#32) reducesTo_S4x4096x4096_S4x4096_d2 h_S_ (ix2 b n)
      = Ideal.sqrt (rowSeq A B b n.val (place (rowSeq A B b n.val) 4096)) :=
  min_row _ b n ((firstMin_place _ (by norm_num)).sqrt (rowSeq_nonneg A B b n.val)) fun q => rootDist_apply A B b n q

/-- The columns' distances. -/
theorem dist_col (A B : FVec Ideal S4x4096x3 .f32) (b : Fin 4) (n : Fin 4096) :
    Host.reduce FloatOps.minimumf (rootDist A B) (constant S_ .f32 0x7F800000#32) reducesTo_S4x4096x4096_S4x4096_d1 h_S_ (ix2 b n)
      = Ideal.sqrt (colSeq A B b n.val (place (colSeq A B b n.val) 4096)) :=
  min_col _ b n ((firstMin_place _ (by norm_num)).sqrt (colSeq_nonneg A B b n.val)) fun q => rootDist_apply A B b q n

/-- The rows' places: square roots keep the place of the first minimum. -/
theorem arg_row (A B : FVec Ideal S4x4096x3 .f32) (b : Fin 4) (n : Fin 4096) :
    (Host.argReduce reducer_argmin_f32_i32 (rootDist A B) (iotaInDim S4x4096x4096 32 2) (constant S_ .f32 0x7F800000#32)
      (constantI S_ 32 0#32) reducesTo_S4x4096x4096_S4x4096_d2 h_S_ (ix2 b n)).2
      = BitVec.ofNat 32 (place (rowSeq A B b n.val) 4096) :=
  argmin_row _ b n ((firstMin_place _ (by norm_num)).sqrt (rowSeq_nonneg A B b n.val)) fun q => rootDist_apply A B b n q

/-- The columns' places. -/
theorem arg_col (A B : FVec Ideal S4x4096x3 .f32) (b : Fin 4) (n : Fin 4096) :
    (Host.argReduce reducer_argmin_f32_i32 (rootDist A B) (iotaInDim S4x4096x4096 32 1) (constant S_ .f32 0x7F800000#32)
      (constantI S_ 32 0#32) reducesTo_S4x4096x4096_S4x4096_d1 h_S_ (ix2 b n)).2
      = BitVec.ofNat 32 (place (colSeq A B b n.val) 4096) :=
  argmin_col _ b n ((firstMin_place _ (by norm_num)).sqrt (colSeq_nonneg A B b n.val)) fun q => rootDist_apply A B b q n

end Cert.ReferenceIdeal.Ref

end
-- ==== Proof.lean ====
/-
  The claims of `Cert.Claim`, put together. The frames are the generated ones (the reference runs through by itself); the
  idealization rewrote nothing; and of the value claim, each result of the kernel and of the reference is the same function
  of the arguments at every index: with the squared distances of a row (or a column) read as a sequence, the root of its
  least entry and the place of its first least entry. The kernel's side is Proof/Arrays.lean, the reference's Proof/Ref.lean,
  the mathematics they share Proof/FirstMin.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Arrays
public import proofs.«01_k».proof.Proof.Ref
public import Idealize.ShloMosaic.Lib.StableHlo.RunHlo
public import Idealize.ShloMosaic.Lib.Claim

@[expose] public section

set_option maxRecDepth 16384

noncomputable section

namespace Cert.Proof

open Idealize.ShloMosaic Idealize.SL.Sem Idealize.ShloMosaic.Tactic Cert.ReferenceIdeal.Ref

/-- The reference runs, its arguments unchanged, and the machine is quiescent at the end. -/
theorem reference_frame : Cert.quiescent_ReferenceIdeal := by
  intro m g _
  refine θ_run_mono (Q := fun r => ∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)) ?_
    fun r h => ⟨h, sem_eq_zero_of_no_sems (by decide) r.2⟩
  hlo_run

/-- The kernel's results are the reference's. -/
theorem algebraic : Cert.algebraic_KernelIdeal_ReferenceIdeal := by
  pair_intro
  · run_from Cert.KernelIdeal.Arrays.run m g
  · hlo_run
    · funext i
      rw [eq_ix2 (n0 := 4) (n1 := 4096) i]
      exact dist_row _ _ _ _
    · funext i
      rw [eq_ix2 (n0 := 4) (n1 := 4096) i]
      exact dist_col _ _ _ _
    · simp -implicitDefEqProofs only [StableHlo.TRef.toBuf, StableHlo.TRef.ofBuf, cast_cast, cast_eq]
      funext i
      rw [eq_ix2 (n0 := 4) (n1 := 4096) i]
      exact arg_row _ _ _ _
    · simp -implicitDefEqProofs only [StableHlo.TRef.toBuf, StableHlo.TRef.ofBuf, cast_cast, cast_eq]
      funext i
      rw [eq_ix2 (n0 := 4) (n1 := 4096) i]
      exact arg_col _ _ _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
